-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x10240 : Shape := ⟨3, ![32, 1, 10240]⟩
abbrev S7168x10240 : Shape := ⟨2, ![7168, 10240]⟩
abbrev S7168 : Shape := ⟨1, ![7168]⟩
abbrev S32x10240 : Shape := ⟨2, ![32, 10240]⟩
abbrev S1x7168 : Shape := ⟨2, ![1, 7168]⟩
abbrev S32x7168 : Shape := ⟨2, ![32, 7168]⟩
abbrev S512x10240 : Shape := ⟨2, ![512, 10240]⟩
abbrev S1x512 : Shape := ⟨2, ![1, 512]⟩
abbrev S32x512 : Shape := ⟨2, ![32, 512]⟩
abbrev S10240x512 : Shape := ⟨2, ![10240, 512]⟩
abbrev S32x1x7168 : Shape := ⟨3, ![32, 1, 7168]⟩

abbrev nBuf : Space → Nat
  | .hbm => 7
  | .vmem => 7
  | .smem => 0
  | _ => 0

abbrev bufTy : (tb : Table) → Fin (tcTables nBuf tb) → BufTy
  | .hbm, ⟨0, _⟩ => ⟨S32x1x10240, .bf16⟩
  | .hbm, ⟨1, _⟩ => ⟨S7168x10240, .i8⟩
  | .hbm, ⟨2, _⟩ => ⟨S7168, .f32⟩
  | .hbm, ⟨3, _⟩ => ⟨S32x10240, .bf16⟩
  | .hbm, ⟨4, _⟩ => ⟨S1x7168, .f32⟩
  | .hbm, ⟨5, _⟩ => ⟨S32x7168, .bf16⟩
  | .hbm, ⟨6, _⟩ => ⟨S32x1x7168, .bf16⟩
  | .local _ .vmem, ⟨0, _⟩ => ⟨S32x10240, .bf16⟩
  | .local _ .vmem, ⟨1, _⟩ => ⟨S512x10240, .i8⟩
  | .local _ .vmem, ⟨2, _⟩ => ⟨S512x10240, .i8⟩
  | .local _ .vmem, ⟨3, _⟩ => ⟨S1x512, .f32⟩
  | .local _ .vmem, ⟨4, _⟩ => ⟨S1x512, .f32⟩
  | .local _ .vmem, ⟨5, _⟩ => ⟨S32x512, .bf16⟩
  | .local _ .vmem, ⟨6, _⟩ => ⟨S32x512, .bf16⟩
  | _, _ => ⟨S32x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10240 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x10240 : Shape := ⟨3, ![32, 1, 10240]⟩
abbrev S7168x10240 : Shape := ⟨2, ![7168, 10240]⟩
abbrev S7168 : Shape := ⟨1, ![7168]⟩
abbrev S32x1x7168 : Shape := ⟨3, ![32, 1, 7168]⟩
abbrev S1x1x7168 : Shape := ⟨3, ![1, 1, 7168]⟩

abbrev nBuf : Space → Nat
  | .hbm => 4
  | .vmem => 4
  | .smem => 0
  | _ => 0

abbrev bufTy : (tb : Table) → Fin (tcTables nBuf tb) → BufTy
  | .hbm, ⟨0, _⟩ => ⟨S32x1x10240, .bf16⟩
  | .hbm, ⟨1, _⟩ => ⟨S7168x10240, .i8⟩
  | .hbm, ⟨2, _⟩ => ⟨S7168, .f32⟩
  | .hbm, ⟨3, _⟩ => ⟨S32x1x7168, .bf16⟩
  | .local _ .vmem, ⟨0, _⟩ => ⟨S32x1x10240, .bf16⟩
  | .local _ .vmem, ⟨1, _⟩ => ⟨S7168x10240, .i8⟩
  | .local _ .vmem, ⟨2, _⟩ => ⟨S7168, .f32⟩
  | .local _ .vmem, ⟨3, _⟩ => ⟨S32x1x7168, .bf16⟩
  | _, _ => ⟨S32x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Linear.lean ====
/-
  The function that the certificate is about, at the ideal instance (a float is an extended real, every operation is
  exact): a linear layer with one activation row per batch entry, integer weights, and one scale per output channel.
  `linear x w s` at batch entry `b` and output channel `o` is `(∑ k, x[b, 0, k] · w[o, k]) · s[o]`.
-/
module

public import Idealize.ShloMosaic.PureOps.Ideal
public import Idealize.ShloMosaic.Lib.Pointwise
public import proofs.«01_k».proof.Defs
public import proofs.«01_k».proof.Proof.Gen.ReferenceIdeal.Value

@[expose] public section

noncomputable section

namespace Cert.Proof.Linear

open Idealize.ShloMosaic
open scoped BigOperators

/-- The integer weight `w`, as the extended real that a conversion to a float gives. -/
abbrev wt (w : BitVec 8) : EReal := FloatOps.sitofp (F := Ideal) .bf16 w

/-- The layer's result at batch entry `b` and output channel `o`. -/
def linear (x : Vec Ideal ⟨3, ![32, 1, 10240]⟩ .bf16) (w : Vec Ideal ⟨2, ![7168, 10240]⟩ .i8)
    (s : Vec Ideal ⟨1, ![7168]⟩ .f32) (b : Fin 32) (o : Fin 7168) : EReal :=
  (∑ k : Fin 10240, (x (ix3 b 0 k) : EReal) * wt (w (ix2 o k))) * (s (ix1 o) : EReal)

/-- The reference's result, as its run names it, is the layer at every index. -/
theorem ref_apply (x : Vec Ideal ⟨3, ![32, 1, 10240]⟩ .bf16) (w : Vec Ideal ⟨2, ![7168, 10240]⟩ .i8)
    (s : Vec Ideal ⟨1, ![7168]⟩ .f32) (j : (⟨3, ![32, 1, 7168]⟩ : Shape).Idx) :
    Cert.ReferenceIdeal.Value.G3 (F := Ideal) x w s j = linear x w s (j 0) (j 2) := by
  unfold Cert.ReferenceIdeal.Value.G3
  unfold_payloads
  pointwise [linear]
  have h1 : j 1 = (0 : Fin 1) := Subsingleton.elim (α := Fin 1) _ _
  rw [h1]

end Cert.Proof.Linear

end
-- ==== Proof.KernelValue.lean ====
/-
  The kernel's side at the ideal instance: what one grid point's body computes at an index (`block_apply`), what the region
  leaves in its output array (`final3`), and what @main's last reshape leaves in its result (`tail_v3`): the layer
  (`Linear.lean`) of the arguments as launched. `run` is the frame run re-posted with that result.
-/
module

public import proofs.«01_k».proof.Proof.Linear
public import proofs.«01_k».proof.Proof.Gen.KernelIdeal.Frame
public import Idealize.ShloMosaic.Lib.Pipeline.Value
public import Idealize.ShloMosaic.Lib.Claim

@[expose] public section

noncomputable section

namespace Cert.KernelIdeal.Value

open Cert.KernelIdeal Cert.KernelIdeal.Gen Idealize.ShloMosaic Idealize.ShloMosaic.TcCoe Idealize.SL.Sem
open Cert.Proof.Linear
open scoped BigOperators

variable (m : (ℓ : Loc nD τ sig) → Buf (Elt Ideal) ℓ) (ρ : Dev nD → PrngReg)

/-! ## One block -/

/-- The layer over the two-dimensional forms that the kernel works on. -/
def linear2 {n : ℕ} (w : Vec Ideal ⟨2, ![n, 10240]⟩ .i8) (x : Vec Ideal S32x10240 .bf16) (s : Vec Ideal ⟨2, ![1, n]⟩ .f32) (b : Fin 32) (o : Fin n) : EReal :=
  (∑ k : Fin 10240, (x (ix2 b k) : EReal) * wt (w (ix2 o k))) * (s (ix2 0 o) : EReal)

/-- What one grid point stores, at an index: the layer of its blocks. -/
theorem block_apply (w : Vec Ideal S512x10240 .i8) (x : Vec Ideal S32x10240 .bf16) (s : Vec Ideal S1x512 .f32) (j : S32x512.Idx) :
    k0_pay1 (F := Ideal) w x s j = linear2 w x s (j 0) (j 1) := by
  unfold_payloads
  pointwise [linear2]

/-! ## The blocks of the arrays -/

theorem hz : (![0, 0] : Fin 2 → Nat) = fun _ => 0 := funext fun a => by fin_cases a <;> rfl

/-- The activations' block is the whole array at every point; -/
theorem idx0 : ∀ t : Fin cfg0.N, win0_0.index t (0 : Fin 2) = 0 ∧ win0_0.index t (1 : Fin 2) = 0 :=
  (by decide +kernel : ∀ t : Fin grid0.N, _)
/-- the weights' block at point `t` is the `t`-th band of rows; -/
theorem idx1 : ∀ t : Fin cfg0.N, win0_1.index t (0 : Fin 2) = t.val ∧ win0_1.index t (1 : Fin 2) = 0 :=
  (by decide +kernel : ∀ t : Fin grid0.N, _)
/-- the scales' and the result's the `t`-th band of columns. -/
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- Output channel `o` of the block at point `t`, as a channel of the layer. -/
def chan (t : Fin cfg0.N) (o : Fin 512) : Fin 7168 :=
  ⟨t.val * 512 + o.val, by have := t.isLt; have h : t.val < 14 := by rw [← N_0]; exact t.isLt
                           have := o.isLt; omega⟩

theorem emb0 (t : Fin cfg0.N) (j : S32x10240.Idx) : ((cfg0.win 0).blk t).view.emb j = j := by
  obtain ⟨e0, e1⟩ := idx0 t
  funext a; apply Fin.ext
  match a with
  | ⟨0, _⟩ => show win0_0.index t (0 : Fin 2) * 32 + 1 * (j 0).val = (j 0).val; omega
  | ⟨1, _⟩ => show win0_0.index t (1 : Fin 2) * 10240 + 1 * (j 1).val = (j 1).val; omega

theorem emb1 (t : Fin cfg0.N) (o : Fin 512) (k : Fin 10240) : ((cfg0.win 1).blk t).view.emb (ix2 o k) = ix2 (chan t o) k := by
  obtain ⟨e0, e1⟩ := idx1 t
  funext a; apply Fin.ext
  match a with
  | ⟨0, _⟩ => show win0_1.index t (0 : Fin 2) * 512 + 1 * o.val = t.val * 512 + o.val; omega
  | ⟨1, _⟩ => show win0_1.index t (1 : Fin 2) * 10240 + 1 * k.val = k.val; omega

theorem emb2 (t : Fin cfg0.N) (o : Fin 512) : ((cfg0.win 2).blk t).view.emb (ix2 (0 : Fin 1) o) = ix2 (0 : Fin 1) (chan t o) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 512 + 1 * o.val = t.val * 512 + o.val; omega

theorem emb3 (t : Fin cfg0.N) (j : S32x512.Idx) : ((cfg0.win 3).blk t).view.emb j = ix2 (j 0) (chan t (j 1)) := by
  obtain ⟨e0, e1⟩ := idx3 t
  funext a; apply Fin.ext
  match a with
  | ⟨0, _⟩ => show win0_3.index t (0 : Fin 2) * 32 + 1 * (j 0).val = (j 0).val; omega
  | ⟨1, _⟩ => show win0_3.index t (1 : Fin 2) * 512 + 1 * (j 1).val = t.val * 512 + (j 1).val; omega

/-! ## The region's output array -/

/-- The array that the region leaves: the layer of the arrays it finds. -/
def G (x : Vec Ideal S32x10240 .bf16) (w : Vec Ideal S7168x10240 .i8) (s : Vec Ideal S1x7168 .f32) : Vec Ideal S32x7168 .bf16 :=
  fun i => linear2 w x s (i 0) (i 1)

/-- A grid point's stored block is its one payload over the whole blocks. -/
theorem out3_eq (x : Vec Ideal S32x10240 .bf16) (w : Vec Ideal S512x10240 .i8) (s : Vec Ideal S1x512 .f32) :
    out0_3 (F := Ideal) x w s = k0_pay1 w x s := by
  unfold out0_3
  rw [View.canon_unit_zero hz, View.ld_unit_zero (S := S512x10240) hz _ w, View.ld_unit_zero (S := S32x10240) hz _ x,
    View.ld_unit_zero (S := S1x512) hz _ s]

/-- What point `t` writes back is its block of `G`. -/
theorem flushed3_eq (c : Dev nD) (t : Fin cfg0.N) :
    (dats m 0 c).flushed 3 t = ((cfg0.win 3).blk t).view.read (Elt Ideal) (G (V m c main_v0) (V m c main_arg1) (V m c main_v1)) := by
  show (cfg0.win 3).cut (grid0.coords t) ((dats m 0 c).after 3 t) = _
  rw [after0_3, out3_eq]
  funext j
  show k0_pay1 (F := Ideal) (iblk m c 1 t) (iblk m c 0 t) (iblk m c 2 t) j = G (V m c main_v0) (V m c main_arg1) (V m c main_v1) (((cfg0.win 3).blk t).view.emb j)
  rw [emb3, block_apply]
  show linear2 _ _ _ (j 0) (j 1) = linear2 _ _ _ (j 0) (chan t (j 1))
  unfold linear2
  refine congrArg₂ (· * ·) (Finset.sum_congr rfl fun k _ => congrArg₂ (· * ·) ?_ (congrArg wt ?_)) ?_
  · show V m c main_v0 (((cfg0.win 0).blk t).view.emb (ix2 (j 0) k)) = _
    rw [emb0]
  · show V m c main_arg1 (((cfg0.win 1).blk t).view.emb (ix2 (j 1) k)) = _
    exact congrArg (V m c main_arg1) (emb1 t (j 1) k)
  · show V m c main_v1 (((cfg0.win 2).blk t).view.emb (ix2 0 (j 1))) = _
    exact congrArg (V m c main_v1) (emb2 t (j 1))

/-- Every index of the array is in some point's block. -/
theorem covered3 (i : S32x7168.Idx) : ∃ t : Fin cfg0.N, (cfg0.win 3).flush t = true ∧ i ∈ ((cfg0.win 3).blk t).view.set := by
  have hi : (i 1).val < 7168 := (i 1).isLt
  have ht : (i 1).val / 512 < cfg0.N := by show _ < grid0.N; rw [N_0]; omega
  refine ⟨⟨(i 1).val / 512, ht⟩, flush0_3 _, ?_⟩
  have h := ((cfg0.win 3).blk ⟨(i 1).val / 512, ht⟩).view.emb_mem_set (ix2 (i 0) (⟨(i 1).val % 512, Nat.mod_lt _ (by decide)⟩ : Fin 512))
  rw [emb3] at h
  have e : ix2 (i 0) (chan ⟨(i 1).val / 512, ht⟩ (⟨(i 1).val % 512, Nat.mod_lt _ (by decide)⟩ : Fin 512)) = i := by
    funext a; apply Fin.ext
    match a with
    | ⟨0, _⟩ => rfl
    | ⟨1, _⟩ => show (i 1).val / 512 * 512 + (i 1).val % 512 = (i 1).val; omega
  have h' : ix2 (i 0) (chan ⟨(i 1).val / 512, ht⟩ (⟨(i 1).val % 512, Nat.mod_lt _ (by decide)⟩ : Fin 512)) ∈ ((cfg0.win 3).blk ⟨(i 1).val / 512, ht⟩).view.set := h
  rwa [e] at h'

/-- The array after the region. -/
theorem final3 (c : Dev nD) : (dats m 0 c).arrAt 3 cfg0.N = G (V m c main_v0) (V m c main_arg1) (V m c main_v1) :=
  (dats m 0 c).arrAt_eq_of_cover 3 _ (fun t _ => flushed3_eq m c t) covered3

/-! ## @main's result -/

/-- The result, as a function of the arguments. -/
def result (x : Vec Ideal S32x1x10240 .bf16) (w : Vec Ideal S7168x10240 .i8) (s : Vec Ideal S7168 .f32) : Vec Ideal S32x1x7168 .bf16 :=
  fun j => linear x w s (j 0) (j 2)

/-- The reshape after the region leaves the region's array at the result's shape. -/
theorem tail_v3 (c : Dev nD) : Pipeline.afterTail₀ cfgs (dats m) 0 (V0 m) [hostOps1] c main_v3
    = shapeCast S32x1x7168 (G (V m c main_v0) (V m c main_arg1) (V m c main_v1)) shapeCasts_S32x7168_S32x1x7168 := by
  unfold Pipeline.afterTail₀
  simp only [hostOps1, List.flatten_cons, List.flatten_nil, List.append_nil, StableHlo.after_cons, StableHlo.after_nil]
  rw [StableHlo.reshape_result]
  have e := Pipeline.withArrays_arr spec0 launch0.win.arr_inj c (V0 m c) (fun w => (dats m 0 c).arrAt w cfg0.N) 3
  rw [final3] at e
  funext i
  exact congrArg (fun f => shapeCast S32x1x7168 f shapeCasts_S32x7168_S32x1x7168 i) e

/-- The activations reach the region reshaped to two dimensions; -/
theorem V_v0 (c : Dev nD) : V m c main_v0 = shapeCast S32x10240 (m ((c : Thread nD τ).loc main_arg0)) shapeCasts_S32x1x10240_S32x10240 := by
  show StableHlo.after [_, _] _ _ = _
  rw [StableHlo.after_cons, StableHlo.after_cons, StableHlo.after_nil, StableHlo.reshape_result_ne' (h := by decide), StableHlo.reshape_result]
  rfl
/-- the scales as one row. -/
theorem V_v1 (c : Dev nD) : V m c main_v1 = shapeCast S1x7168 (m ((c : Thread nD τ).loc main_arg2)) shapeCasts_S7168_S1x7168 := by
  show StableHlo.after [_, _] _ _ = _
  rw [StableHlo.after_cons, StableHlo.after_cons, StableHlo.after_nil, StableHlo.reshape_result, StableHlo.reshape_result_ne' (h := by decide)]
  rfl

/-- The three reshapes around the region change no value: the region's array of the reshaped arguments, reshaped, is the layer. -/
theorem reshaped_eq (x : Vec Ideal S32x1x10240 .bf16) (w : Vec Ideal S7168x10240 .i8) (s : Vec Ideal S7168 .f32) :
    shapeCast S32x1x7168 (G (shapeCast S32x10240 x shapeCasts_S32x1x10240_S32x10240) w (shapeCast S1x7168 s shapeCasts_S7168_S1x7168))
      shapeCasts_S32x7168_S32x1x7168 = result x w s := by
  funext j
  pointwise [result, linear, G, linear2]

/-- The result is the layer of the arguments as launched. -/
theorem tail_eq (c : Dev nD) : Pipeline.afterTail₀ cfgs (dats m) 0 (V0 m) [hostOps1] c main_v3
    = result (m ((c : Thread nD τ).loc main_arg0)) (m ((c : Thread nD τ).loc main_arg1)) (m ((c : Thread nD τ).loc main_arg2)) := by
  rw [tail_v3, V_v0, V_v1, V_main_arg1]
  exact reshaped_eq _ _ _

/-- The frame run re-posted: the result is the layer of the arguments, the arguments unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Linear
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- Both results are the layer of the same arguments. -/
theorem result_eq (x : Vec Ideal ⟨3, ![32, 1, 10240]⟩ .bf16) (w : Vec Ideal ⟨2, ![7168, 10240]⟩ .i8) (s : Vec Ideal ⟨1, ![7168]⟩ .f32) :
    Cert.ReferenceIdeal.Value.G3 (F := Ideal) x w s = Cert.KernelIdeal.Value.result x w s :=
  funext fun j => Linear.ref_apply x w s j

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m ρ m' ρ' _ h => ⟨_, Cert.KernelIdeal.Value.run m ρ, (θ_run _ _ _).mono (fun r hr c => ⟨by
      rw [(hr c).1, (h c).1, (h c).2.1, (h c).2.2]; exact result_eq _ _ _, (hr c).2⟩) (Cert.ReferenceIdeal.Value.run m' ρ')⟩⟩

end Cert.Proof

end
